-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x65536x7 : Shape := ⟨3, ![8, 65536, 7]⟩
abbrev S7x64 : Shape := ⟨2, ![7, 64]⟩
abbrev S64 : Shape := ⟨1, ![64]⟩
abbrev S64x64 : Shape := ⟨2, ![64, 64]⟩
abbrev S1x64 : Shape := ⟨2, ![1, 64]⟩
abbrev S8x1024x64 : Shape := ⟨3, ![8, 1024, 64]⟩
abbrev S1x4096x7 : Shape := ⟨3, ![1, 4096, 7]⟩
abbrev S1x1024x64 : Shape := ⟨3, ![1, 1024, 64]⟩
abbrev S4 : Shape := ⟨1, ![4]⟩
abbrev S4096x7 : Shape := ⟨2, ![4096, 7]⟩
abbrev S7 : Shape := ⟨1, ![7]⟩
abbrev S1x7 : Shape := ⟨2, ![1, 7]⟩
abbrev S1 : Shape := ⟨1, ![1]⟩
abbrev S1x1 : Shape := ⟨2, ![1, 1]⟩
abbrev S4096x1 : Shape := ⟨2, ![4096, 1]⟩
abbrev S4096x64 : Shape := ⟨2, ![4096, 64]⟩
abbrev S4096x1024 : Shape := ⟨2, ![4096, 1024]⟩
abbrev S1024x64 : Shape := ⟨2, ![1024, 64]⟩
abbrev S8x32x32x64 : Shape := ⟨4, ![8, 32, 32, 64]⟩

abbrev nBuf : Space → Nat
  | .hbm => 9
  | .vmem => 8
  | .smem => 1
  | _ => 0

abbrev bufTy : (tb : Table) → Fin (tcTables nBuf tb) → BufTy
  | .hbm, ⟨0, _⟩ => ⟨S8x65536x7, .f32⟩
  | .hbm, ⟨1, _⟩ => ⟨S7x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1x64, .f32⟩
  | .hbm, ⟨7, _⟩ => ⟨S8x1024x64, .f32⟩
  | .hbm, ⟨8, _⟩ => ⟨S8x32x32x64, .f32⟩
  | .local _ .vmem, ⟨0, _⟩ => ⟨S1x4096x7, .f32⟩
  | .local _ .vmem, ⟨1, _⟩ => ⟨S1x4096x7, .f32⟩
  | .local _ .vmem, ⟨2, _⟩ => ⟨S7x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x1024x64, .f32⟩
  | .local _ .vmem, ⟨7, _⟩ => ⟨S1x1024x64, .f32⟩
  | .local _ .smem, ⟨0, _⟩ => ⟨S4, .f32⟩
  | _, _ => ⟨S8x65536x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![8, 2, 16], ![false, false, false]⟩

def k0_cond3 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg2 : BitVec 32 := BitVec.ofNat 32 (i 2).val
  let c0_i32_25 : BitVec 32 := 0#32
  let v67 : BitVec 1 := Scalar.cmpi .eq arg2 c0_i32_25
  let v68 : BitVec 32 := Scalar.extui v67
  let c0_i32_26 : BitVec 32 := 0#32
  let v69 : BitVec 1 := Scalar.cmpi .ne v68 c0_i32_26
  v69

def k0_cond5 (i : grid0.Coords) : BitVec 1 :=
  let arg2 : BitVec 32 := BitVec.ofNat 32 (i 2).val
  let c0_i32_27 : BitVec 32 := 0#32
  let v70 : BitVec 1 := Scalar.cmpi .sgt arg2 c0_i32_27
  let v71 : BitVec 32 := Scalar.extui v70
  let c0_i32_28 : BitVec 32 := 0#32
  let v72 : BitVec 1 := Scalar.cmpi .ne v71 c0_i32_28
  v72

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceIdeal.lean ====
abbrev S8x65536x7 : Shape := ⟨3, ![8, 65536, 7]⟩
abbrev S7x64 : Shape := ⟨2, ![7, 64]⟩
abbrev S64 : Shape := ⟨1, ![64]⟩
abbrev S64x64 : Shape := ⟨2, ![64, 64]⟩
abbrev S8x65536x1 : Shape := ⟨3, ![8, 65536, 1]⟩
abbrev S8x65536 : Shape := ⟨2, ![8, 65536]⟩
abbrev S_ : Shape := ⟨0, ![]⟩
abbrev S8 : Shape := ⟨1, ![8]⟩
abbrev S8x1 : Shape := ⟨2, ![8, 1]⟩
abbrev S8x65536x64 : Shape := ⟨3, ![8, 65536, 64]⟩
abbrev S1x1x64 : Shape := ⟨3, ![1, 1, 64]⟩
abbrev S524288 : Shape := ⟨1, ![524288]⟩
abbrev S524288x64 : Shape := ⟨2, ![524288, 64]⟩
abbrev S8192x64 : Shape := ⟨2, ![8192, 64]⟩
abbrev S524288x1 : Shape := ⟨2, ![524288, 1]⟩
abbrev S8x32x32x64 : Shape := ⟨4, ![8, 32, 32, 64]⟩

abbrev nBuf : Space → Nat
  | .hbm => 98
  | .vmem => 0
  | .smem => 0
  | _ => 0

abbrev bufTy : (tb : Table) → Fin (tcTables nBuf tb) → BufTy
  | .hbm, ⟨0, _⟩ => ⟨S8x65536x7, .f32⟩
  | .hbm, ⟨1, _⟩ => ⟨S7x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8x65536x1, .f32⟩
  | .hbm, ⟨6, _⟩ => ⟨S8x65536, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S8x65536x1, .f32⟩
  | .hbm, ⟨11, _⟩ => ⟨S8x65536, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S8x65536x1, .f32⟩
  | .hbm, ⟨16, _⟩ => ⟨S8x65536, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S8x65536x1, .f32⟩
  | .hbm, ⟨21, _⟩ => ⟨S8x65536, .f32⟩
  | .hbm, ⟨22, _⟩ => ⟨S_, .f32⟩
  | .hbm, ⟨23, _⟩ => ⟨S8, .f32⟩
  | .hbm, ⟨24, _⟩ => ⟨S8x1, .f32⟩
  | .hbm, ⟨25, _⟩ => ⟨S8x1, .f32⟩
  | .hbm, ⟨26, _⟩ => ⟨S_, .f32⟩
  | .hbm, ⟨27, _⟩ => ⟨S8x1, .f32⟩
  | .hbm, ⟨28, _⟩ => ⟨S8x1, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S8x65536x1, .f32⟩
  | .hbm, ⟨34, _⟩ => ⟨S8x65536, .f32⟩
  | .hbm, ⟨35, _⟩ => ⟨S8x65536, .f32⟩
  | .hbm, ⟨36, _⟩ => ⟨S8x65536, .f32⟩
  | .hbm, ⟨37, _⟩ => ⟨S8x65536, .f32⟩
  | .hbm, ⟨38, _⟩ => ⟨S8x65536, .f32⟩
  | .hbm, ⟨39, _⟩ => ⟨S8x65536x1, .f32⟩
  | .hbm, ⟨40, _⟩ => ⟨S8x65536, .f32⟩
  | .hbm, ⟨41, _⟩ => ⟨S8x65536, .f32⟩
  | .hbm, ⟨42, _⟩ => ⟨S8x65536, .f32⟩
  | .hbm, ⟨43, _⟩ => ⟨S8x65536, .f32⟩
  | .hbm, ⟨44, _⟩ => ⟨S8x65536, .f32⟩
  | .hbm, ⟨45, _⟩ => ⟨S_, .f32⟩
  | .hbm, ⟨46, _⟩ => ⟨S8x65536, .f32⟩
  | .hbm, ⟨47, _⟩ => ⟨S8x65536, .f32⟩
  | .hbm, ⟨48, _⟩ => ⟨S8x65536, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S8x65536, .i32⟩
  | .hbm, ⟨53, _⟩ => ⟨S8x65536, .i32⟩
  | .hbm, ⟨54, _⟩ => ⟨S_, .i32⟩
  | .hbm, ⟨55, _⟩ => ⟨S8x65536, .i32⟩
  | .hbm, ⟨56, _⟩ => ⟨S8x65536, .i32⟩
  | .hbm, ⟨57, _⟩ => ⟨S_, .f32⟩
  | .hbm, ⟨58, _⟩ => ⟨S8x65536, .f32⟩
  | .hbm, ⟨59, _⟩ => ⟨S8x65536, .f32⟩
  | .hbm, ⟨60, _⟩ => ⟨S8x65536, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x65536, .i32⟩
  | .hbm, ⟨65, _⟩ => ⟨S8x65536, .i32⟩
  | .hbm, ⟨66, _⟩ => ⟨S_, .i32⟩
  | .hbm, ⟨67, _⟩ => ⟨S8x65536, .i32⟩
  | .hbm, ⟨68, _⟩ => ⟨S8x65536, .i32⟩
  | .hbm, ⟨69, _⟩ => ⟨S8x65536x64, .f32⟩
  | .hbm, ⟨70, _⟩ => ⟨S1x1x64, .f32⟩
  | .hbm, ⟨71, _⟩ => ⟨S8x65536x64, .f32⟩
  | .hbm, ⟨72, _⟩ => ⟨S8x65536x64, .f32⟩
  | .hbm, ⟨73, _⟩ => ⟨S_, .f32⟩
  | .hbm, ⟨74, _⟩ => ⟨S8x65536x64, .f32⟩
  | .hbm, ⟨75, _⟩ => ⟨S8x65536x64, .f32⟩
  | .hbm, ⟨76, _⟩ => ⟨S8x65536x64, .f32⟩
  | .hbm, ⟨77, _⟩ => ⟨S1x1x64, .f32⟩
  | .hbm, ⟨78, _⟩ => ⟨S8x65536x64, .f32⟩
  | .hbm, ⟨79, _⟩ => ⟨S8x65536x64, .f32⟩
  | .hbm, ⟨80, _⟩ => ⟨S8, .i32⟩
  | .hbm, ⟨81, _⟩ => ⟨S8x1, .i32⟩
  | .hbm, ⟨82, _⟩ => ⟨S_, .i32⟩
  | .hbm, ⟨83, _⟩ => ⟨S8x1, .i32⟩
  | .hbm, ⟨84, _⟩ => ⟨S8x1, .i32⟩
  | .hbm, ⟨85, _⟩ => ⟨S_, .i32⟩
  | .hbm, ⟨86, _⟩ => ⟨S8x65536, .i32⟩
  | .hbm, ⟨87, _⟩ => ⟨S8x65536, .i32⟩
  | .hbm, ⟨88, _⟩ => ⟨S8x65536, .i32⟩
  | .hbm, ⟨89, _⟩ => ⟨S8x65536, .i32⟩
  | .hbm, ⟨90, _⟩ => ⟨S8x65536, .i32⟩
  | .hbm, ⟨91, _⟩ => ⟨S524288, .i32⟩
  | .hbm, ⟨92, _⟩ => ⟨S524288x64, .f32⟩
  | .hbm, ⟨93, _⟩ => ⟨S_, .f32⟩
  | .hbm, ⟨94, _⟩ => ⟨S8192x64, .f32⟩
  | .hbm, ⟨95, _⟩ => ⟨S524288x1, .i32⟩
  | .hbm, ⟨96, _⟩ => ⟨S8192x64, .f32⟩
  | .hbm, ⟨97, _⟩ => ⟨S8x32x32x64, .f32⟩
  | _, _ => ⟨S8x65536x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_c_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Proof.Steps.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem

namespace Cert.KernelIdeal.Val
open Cert.KernelIdeal Cert.KernelIdeal.Gen
variable {F : FTy → Type} [FloatOps F]
variable (m : (ℓ : Loc nD τ sig) → Buf (Elt F) ℓ)

/-- The four running extremes after one more block `x` of points: the least and greatest first coordinate, then the least and greatest second. -/
def widen (x : Vec F S1x4096x7 .f32) (old : Vec F S4 .f32) : Vec F S4 .f32 := fun y =>
  ![k0_pay4 x (old (ix1 0)), k0_pay5 x (old (ix1 1)), k0_pay6 x (old (ix1 2)), k0_pay7 x (old (ix1 3))] (y 0)

/-- The extremes of no points at all: plus infinity for each least, minus infinity for each greatest. -/
def noSpan : Vec F S4 .f32 := fun y =>
  ![FloatOps.ofBits .f32 0x7F800000#32, FloatOps.ofBits .f32 0xFF800000#32, FloatOps.ofBits .f32 0x7F800000#32,
    FloatOps.ofBits .f32 0xFF800000#32] (y 0)

/-- One entry of the four, loaded on its own. -/
theorem ld_entry (k : Fin 4) {h} {g} (v : Vec F S4 .f32) :
    View.ld (e' := .f32) v (Rect.unit (s := S4) ![k.val] ![1] h) (Shape.Idx.first g) = v (ix1 k) := by
  unfold View.ld; congr 1; funext a; fin_cases a; rfl

/-- The entry's index lies in the entry's one-element box. -/
theorem mem_entry (n : Nat) (hn : n < 4) (h) : (ix1 (⟨n, hn⟩ : Fin 4) : S4.Idx) ∈ (Rect.unit (s := S4) ![n] ![1] h).set :=
  Rect.mem_set_unit.mpr fun a => by fin_cases a; exact ⟨Nat.le_refl _, Nat.lt_succ_self _⟩

/-- The one element of an entry's box sits at the entry's index. -/
theorem emb_entry (n : Nat) (hn : n < 4) (h) (x : (Rect.unit (s := S4) ![n] ![1] h).shape.Idx) :
    (Rect.unit (s := S4) ![n] ![1] h).emb x = ix1 (⟨n, hn⟩ : Fin 4) := by
  funext a; fin_cases a; apply Fin.ext
  have hx : (x 0).val < 1 := (x 0).isLt
  show n + 1 * (x 0).val = n
  omega

/-- Four one-entry boxes, written over anything at all, leave what they hold. -/
theorem canon_entries (G : Vec F S4 .f32) (L : List (View.Piece (Elt F) S4 .f32)) {h0 h1 h2 h3} (w0 w1 w2 w3 : Elt F .f32)
    (e0 : w0 = G (ix1 0)) (e1 : w1 = G (ix1 1)) (e2 : w2 = G (ix1 2)) (e3 : w3 = G (ix1 3)) :
    View.canon (⟨Rect.unit ![3] ![1] h3, fun _ => w3⟩ :: ⟨Rect.unit ![2] ![1] h2, fun _ => w2⟩ ::
      ⟨Rect.unit ![1] ![1] h1, fun _ => w1⟩ :: ⟨Rect.unit ![0] ![1] h0, fun _ => w0⟩ :: L) = G := by
  funext y
  refine View.canon_append_of_piecesOf G L [⟨Rect.unit ![3] ![1] h3, fun _ => w3⟩, ⟨Rect.unit ![2] ![1] h2, fun _ => w2⟩,
    ⟨Rect.unit ![1] ![1] h1, fun _ => w1⟩, ⟨Rect.unit ![0] ![1] h0, fun _ => w0⟩]
    ⟨fun x => ?_, fun x => ?_, fun x => ?_, fun x => ?_, trivial⟩ y ?_
  · rw [emb_entry 3 (by decide) h3 x]; exact e3
  · rw [emb_entry 2 (by decide) h2 x]; exact e2
  · rw [emb_entry 1 (by decide) h1 x]; exact e1
  · rw [emb_entry 0 (by decide) h0 x]; exact e0
  · obtain ⟨k, rfl⟩ : ∃ k : Fin 4, y = ix1 k := ⟨y 0, eq_ix1 y⟩
    match k with
    | ⟨0, hk⟩ => exact ⟨_, .tail _ (.tail _ (.tail _ (.head _))), mem_entry 0 hk h0⟩
    | ⟨1, hk⟩ => exact ⟨_, .tail _ (.tail _ (.head _)), mem_entry 1 hk h1⟩
    | ⟨2, hk⟩ => exact ⟨_, .tail _ (.head _), mem_entry 2 hk h2⟩
    | ⟨3, hk⟩ => exact ⟨_, .head _, mem_entry 3 hk h3⟩

/-- At a batch's first point of the first phase, the extremes held are the first block's own. -/
theorem span_first (c : Dev nD) (t : Fin cfg0.N) (h0 : t.val / 16 % 2 = 0) (h1 : t.val % 16 = 0) :
    (outsAt0 m c t.val t.isLt).2 = widen (iblk m c 0 t) noSpan := by
  rw [outsAt0_A m c t h0 h1 (by omega)]
  frame_open
  simp (disch := decide) only [↓ View.readCov_skip, ↓ View.readCov_cons_toLoadRect, ↓ View.readCov_fill]
  frame_out
  exact canon_entries _ [_, _, _, _] _ _ _ _ rfl rfl rfl rfl

/-- At a later point of the first phase they are the point before's, widened by this block. -/
theorem span_next (c : Dev nD) (t : Fin cfg0.N) (h0 : t.val / 16 % 2 = 0) (h1 : ¬ t.val % 16 = 0) :
    (outsAt0 m c t.val t.isLt).2 =
      widen (iblk m c 0 t) (outsAt0 m c (t.val - 1) (Nat.lt_of_le_of_lt (Nat.sub_le _ _) t.isLt)).2 := by
  rw [outsAt0_B m c t h0 h1 (by omega)]
  frame_open
  frame_out
  simp only [read_unread_whole]
  refine canon_entries _ [] _ _ _ _ ?_ ?_ ?_ ?_
  · exact congrArg _ (ld_entry 0 _)
  · exact congrArg _ (ld_entry 1 _)
  · exact congrArg _ (ld_entry 2 _)
  · exact congrArg _ (ld_entry 3 _)

/-- In the second phase nothing writes them. -/
theorem span_keep (c : Dev nD) (t : Fin cfg0.N) (h0 : t.val / 16 % 2 = 1) :
    (outsAt0 m c t.val t.isLt).2 = (outsAt0 m c (t.val - 1) (Nat.lt_of_le_of_lt (Nat.sub_le _ _) t.isLt)).2 := by
  by_cases h1 : t.val % 16 = 0
  · rw [outsAt0_C m c t (by omega) h0 h1 (by omega)]; rfl
  · rw [outsAt0_D m c t (by omega) h0 h1 (by omega)]; rfl

/-- The cell numbers of one block's points, as a column, given the four extremes. -/
def cells (x : Vec F S1x4096x7 .f32) (sp : Vec F S4 .f32) : IVec S4096x1 32 :=
  k0_pay12 x (sp (ix1 0)) (sp (ix1 1)) (sp (ix1 0)) (sp (ix1 2)) (sp (ix1 3)) (sp (ix1 2))

/-- At a batch's first point of the second phase, the output block is the first block's share. -/
theorem out_first (c : Dev nD) (t : Fin cfg0.N) (h0 : t.val / 16 % 2 = 1) (h1 : t.val % 16 = 0) :
    (outsAt0 m c t.val t.isLt).1 =
      k0_pay9 (k0_pay11 (iblk m c 0 t))
        (cells (iblk m c 0 t) (outsAt0 m c (t.val - 1) (Nat.lt_of_le_of_lt (Nat.sub_le _ _) t.isLt)).2)
        (iblk m c 1 t) (iblk m c 2 t) (iblk m c 3 t) (iblk m c 4 t) := by
  rw [outsAt0_C m c t (by omega) h0 h1 (by omega)]
  frame_open
  frame_out
  simp only [read_unread_whole]
  have e0 := fun h g v => ld_entry (F := F) 0 (h := h) (g := g) v
  have e1 := fun h g v => ld_entry (F := F) 1 (h := h) (g := g) v
  have e2 := fun h g v => ld_entry (F := F) 2 (h := h) (g := g) v
  have e3 := fun h g v => ld_entry (F := F) 3 (h := h) (g := g) v
  unfold cells
  congr 1
  exact congr (congr (congr (congr (congr (congrArg _ (e0 _ _ _)) (e1 _ _ _)) (e0 _ _ _)) (e2 _ _ _)) (e3 _ _ _)) (e2 _ _ _)

/-- At a later point of the second phase this block's share is added to what the output block held. -/
theorem out_next (c : Dev nD) (t : Fin cfg0.N) (h0 : t.val / 16 % 2 = 1) (h1 : ¬ t.val % 16 = 0) :
    (outsAt0 m c t.val t.isLt).1 =
      k0_pay10 (k0_pay11 (iblk m c 0 t))
        (cells (iblk m c 0 t) (outsAt0 m c (t.val - 1) (Nat.lt_of_le_of_lt (Nat.sub_le _ _) t.isLt)).2)
        (iblk m c 1 t) (iblk m c 2 t) (iblk m c 3 t) (iblk m c 4 t)
        (outsAt0 m c (t.val - 1) (Nat.lt_of_le_of_lt (Nat.sub_le _ _) t.isLt)).1 := by
  rw [outsAt0_D m c t (by omega) h0 h1 (by omega)]
  frame_open
  frame_out
  simp only [read_unread_whole]
  have e0 := fun h g v => ld_entry (F := F) 0 (h := h) (g := g) v
  have e1 := fun h g v => ld_entry (F := F) 1 (h := h) (g := g) v
  have e2 := fun h g v => ld_entry (F := F) 2 (h := h) (g := g) v
  have e3 := fun h g v => ld_entry (F := F) 3 (h := h) (g := g) v
  unfold cells
  congr 1
  exact congr (congr (congr (congr (congr (congrArg _ (e0 _ _ _)) (e1 _ _ _)) (e0 _ _ _)) (e2 _ _ _)) (e3 _ _ _)) (e2 _ _ _)

end Cert.KernelIdeal.Val
-- ==== Proof.Spec.lean ====
module

public import Idealize.ShloMosaic.Lib.Pointwise
public import Idealize.ShloMosaic.PureOps.Ideal.Laws

@[expose] public section
noncomputable section
open Idealize.ShloMosaic

namespace Cert.Grid

/-- A matrix of extended reals, by its two coordinates. -/
abbrev Mat (a b : Nat) : Type := (⟨2, ![a, b]⟩ : Shape).Idx → EReal

/-- The points: 8 batches of 65536 points with 7 coordinates. -/
abbrev Points : Type := (⟨3, ![8, 65536, 7]⟩ : Shape).Idx → EReal

/-- The cell, 0 to 31, that a coordinate falls into along an axis whose points reach from `lo` to `hi`. -/
def cell (v lo hi : EReal) : BitVec 32 :=
  IntOp.minsi 31#32 (IntOp.maxsi 0#32 (FloatOps.fptosi (F := Ideal) (φ := .f32) 32
    (Ideal.div (v - lo) (max (hi - lo) (Ideal.ofBits .f32 0x322BCC77#32)) * Ideal.ofBits .f32 0x42000000#32)))

/-- The number of a cell in the grid of 32 by 32, row by row. -/
def number (gx gy : BitVec 32) : BitVec 32 := IntOp.addi (IntOp.muli gx 32#32) gy

/-- Lane `h` of the two-layer network's value at a point with coordinates `r`. -/
def feature (r : Fin 7 → EReal) (W0 : Mat 7 64) (b0 : Fin 64 → EReal) (W1 : Mat 64 64) (b1 : Fin 64 → EReal) (h : Fin 64) : EReal :=
  ∑ k : Fin 64, max (∑ i : Fin 7, r i * W0 (ix2 i k) + b0 k) 0 * W1 (ix2 k h) + b1 h

/-- The least value of coordinate `j` over batch `b`. -/
def low (X : Points) (b : Fin 8) (j : Fin 7) : EReal :=
  Finset.univ.fold min (Ideal.ofBits .f32 0x7F800000#32) fun p : Fin 65536 => X (ix3 b p j)

/-- The greatest value of coordinate `j` over batch `b`. -/
def high (X : Points) (b : Fin 8) (j : Fin 7) : EReal :=
  Finset.univ.fold max (Ideal.ofBits .f32 0xFF800000#32) fun p : Fin 65536 => X (ix3 b p j)

/-- The number of the cell that point `p` of batch `b` falls into. -/
def cellNumber (X : Points) (b : Fin 8) (p : Fin 65536) : BitVec 32 :=
  number (cell (X (ix3 b p 0)) (low X b 0) (high X b 0)) (cell (X (ix3 b p 1)) (low X b 1) (high X b 1))

/-- What point `p` of batch `b` adds to cell `s`, lane `h`: its feature when it falls into the cell, and nothing otherwise. -/
def share (X : Points) (W0 : Mat 7 64) (b0 : Fin 64 → EReal) (W1 : Mat 64 64) (b1 : Fin 64 → EReal)
    (b : Fin 8) (s : Nat) (h : Fin 64) (p : Fin 65536) : EReal :=
  if (cellNumber X b p).toNat = s then feature (fun i => X (ix3 b p i)) W0 b0 W1 b1 h else 0

/-- Cell `s`, lane `h` of batch `b`'s latent grid: the features of the points in the cell, summed. -/
def latent (X : Points) (W0 : Mat 7 64) (b0 : Fin 64 → EReal) (W1 : Mat 64 64) (b1 : Fin 64 → EReal)
    (b : Fin 8) (s : Nat) (h : Fin 64) : EReal :=
  ∑ p : Fin 65536, share X W0 b0 W1 b1 b s h p

/-- The word the least values start from is plus infinity. -/
theorem ofBits_top : Ideal.ofBits .f32 0x7F800000#32 = ⊤ := by
  simp [Ideal.ofBits, Ideal.ieee]

/-- The word the greatest values start from is minus infinity. -/
theorem ofBits_bot : Ideal.ofBits .f32 0xFF800000#32 = ⊥ := by
  simp [Ideal.ofBits, Ideal.ieee]

/-- A word clamped between 0 and 31 is at most 31. -/
theorem clamp_le (z : BitVec 32) : (IntOp.minsi 31#32 (IntOp.maxsi 0#32 z)).toNat ≤ 31 := by
  unfold IntOp.minsi IntOp.maxsi
  simp only [BitVec.slt, decide_eq_true_eq]
  split <;> split <;> simp_all [BitVec.toInt_eq_toNat_cond] <;> omega

/-- A cell is at most 31. -/
theorem cell_le (v lo hi : EReal) : (cell v lo hi).toNat ≤ 31 := clamp_le _

/-- The number of a cell, as a natural number: nothing wraps. -/
theorem number_toNat (gx gy : BitVec 32) (hx : gx.toNat ≤ 31) (hy : gy.toNat ≤ 31) :
    (number gx gy).toNat = gx.toNat * 32 + gy.toNat := by
  simp only [number, IntOp.addi, IntOp.muli, BitVec.toNat_add, BitVec.toNat_mul, BitVec.toNat_ofNat]
  omega

/-- Row number `1024 x + 32 gx + gy`, computed on words and read as an integer, is row `1024 b + s` exactly when the batches and the cells agree. -/
theorem row_iff (x b : Fin 8) (gx gy : BitVec 32) (hx : gx.toNat ≤ 31) (hy : gy.toNat ≤ 31) (s : Nat) (hs : s < 1024) :
    (IntOp.addi (IntOp.addi (IntOp.muli (BitVec.ofNat 32 x.val) 1024#32) (IntOp.muli gx 32#32)) gy).toInt = ((b.val * 1024 + s : Nat) : Int)
      ↔ x = b ∧ (number gx gy).toNat = s := by
  rw [number_toNat _ _ hx hy]
  have e : (IntOp.addi (IntOp.addi (IntOp.muli (BitVec.ofNat 32 x.val) 1024#32) (IntOp.muli gx 32#32)) gy).toNat =
      x.val * 1024 + gx.toNat * 32 + gy.toNat := by
    simp only [IntOp.addi, IntOp.muli, BitVec.toNat_add, BitVec.toNat_mul, BitVec.toNat_ofNat]
    omega
  rw [BitVec.toInt_eq_toNat_of_lt (by omega), e, Fin.ext_iff]
  omega

/-- A sum over 524288 rows is one over 8 batches of 65536. -/
theorem sum_rows (f : Fin 524288 → EReal) :
    ∑ k, f k = ∑ b : Fin 8, ∑ p : Fin 65536, f ⟨b.val * 65536 + p.val, by omega⟩ := by
  have e := (Equiv.sum_comp (finProdFinEquiv (m := 8) (n := 65536)) (fun k : Fin (8 * 65536) => f k)).symm
  refine e.trans ((Fintype.sum_prod_type _).trans ?_)
  refine Finset.sum_congr rfl fun b _ => Finset.sum_congr rfl fun p _ => congrArg f (Fin.ext ?_)
  show p.val + 65536 * b.val = b.val * 65536 + p.val
  omega

/-- A cell's number is below 1024. -/
theorem cellNumber_lt (X : Points) (b : Fin 8) (p : Fin 65536) : (cellNumber X b p).toNat < 1024 := by
  have hx := cell_le (X (ix3 b p 0)) (low X b 0) (high X b 0)
  have hy := cell_le (X (ix3 b p 1)) (low X b 1) (high X b 1)
  unfold cellNumber
  rw [number_toNat _ _ hx hy]
  omega

end Cert.Grid
-- ==== Proof.Block.lean ====
module

public import proofs.«01_k».proof.Proof.Steps
public import proofs.«01_k».proof.Proof.Spec

@[expose] public section
set_option maxRecDepth 16384
noncomputable section
open Idealize.ShloMosaic Idealize.ShloMosaic.TcCoe Idealize.SL.Sem

namespace Cert.KernelIdeal.Val
open Cert.KernelIdeal Cert.KernelIdeal.Gen

/-- The four extremes `v` bound exactly the first `n` of the rows `r`: the least and the greatest of coordinate 0, then of coordinate 1. -/
structure Spans (r : Nat → Fin 7 → EReal) (n : Nat) (v : Vec Ideal S4 .f32) : Prop where
  lo0 : ∀ a : EReal, a ≤ v (ix1 0) ↔ ∀ p < n, a ≤ r p 0
  hi0 : ∀ a : EReal, v (ix1 1) ≤ a ↔ ∀ p < n, r p 0 ≤ a
  lo1 : ∀ a : EReal, a ≤ v (ix1 2) ↔ ∀ p < n, a ≤ r p 1
  hi1 : ∀ a : EReal, v (ix1 3) ≤ a ↔ ∀ p < n, r p 1 ≤ a

/-- No rows are bounded by the empty extremes. -/
theorem spans_none (r : Nat → Fin 7 → EReal) : Spans r 0 noSpan where
  lo0 a := by
    show a ≤ Ideal.ofBits .f32 0x7F800000#32 ↔ _
    simp [Grid.ofBits_top]
  hi0 a := by
    show Ideal.ofBits .f32 0xFF800000#32 ≤ a ↔ _
    simp [Grid.ofBits_bot]
  lo1 a := by
    show a ≤ Ideal.ofBits .f32 0x7F800000#32 ↔ _
    simp [Grid.ofBits_top]
  hi1 a := by
    show Ideal.ofBits .f32 0xFF800000#32 ≤ a ↔ _
    simp [Grid.ofBits_bot]

/-- A statement about the first `n + k` rows is one about the first `n` and one about the next `k`. -/
theorem forall_lt_add (P : Nat → Prop) (n k : Nat) : (∀ p < n + k, P p) ↔ (∀ p < n, P p) ∧ ∀ q : Fin k, P (n + q.val) := by
  constructor
  · exact fun h => ⟨fun p hp => h p (by omega), fun q => h _ (by omega)⟩
  · rintro ⟨h1, h2⟩ p hp
    by_cases q : p < n
    · exact h1 p q
    · have := h2 ⟨p - n, by omega⟩
      rwa [show n + (p - n) = p by omega] at this

/-- One more block of rows widens the extremes to bound its rows too. -/
theorem spans_widen (r : Nat → Fin 7 → EReal) (n : Nat) (v : Vec Ideal S4 .f32) (x : Vec Ideal S1x4096x7 .f32)
    (hx : ∀ (q : Fin 4096) (j : Fin 7), x (ix3 0 q j) = r (n + q.val) j) (h : Spans r n v) :
    Spans r (n + 4096) (widen x v) where
  lo0 a := by
    show a ≤ k0_pay4 (F := Ideal) x (v (ix1 0)) ↔ _
    unfold_payloads
    pointwise
    rw [Grid.ofBits_top, forall_lt_add, le_min_iff, h.lo0, Finset.le_fold_min]
    simp [hx]
  hi0 a := by
    show k0_pay5 (F := Ideal) x (v (ix1 1)) ≤ a ↔ _
    unfold_payloads
    pointwise
    rw [Grid.ofBits_bot, forall_lt_add, max_le_iff, h.hi0, Finset.fold_max_le]
    simp [hx]
  lo1 a := by
    show a ≤ k0_pay6 (F := Ideal) x (v (ix1 2)) ↔ _
    unfold_payloads
    pointwise
    rw [Grid.ofBits_top, forall_lt_add, le_min_iff, h.lo1, Finset.le_fold_min]
    simp [hx]
  hi1 a := by
    show k0_pay7 (F := Ideal) x (v (ix1 3)) ≤ a ↔ _
    unfold_payloads
    pointwise
    rw [Grid.ofBits_bot, forall_lt_add, max_le_iff, h.hi1, Finset.fold_max_le]
    simp [hx]

/-- The cell numbers of a block, point by point. -/
theorem cells_apply (x : Vec Ideal S1x4096x7 .f32) (sp : Vec Ideal S4 .f32) (q : Fin 4096) :
    cells (F := Ideal) x sp (ix2 q 0) =
      Grid.number (Grid.cell (x (ix3 0 q 0)) (sp (ix1 0)) (sp (ix1 1))) (Grid.cell (x (ix3 0 q 1)) (sp (ix1 2)) (sp (ix1 3))) := by
  unfold cells
  unfold_payloads
  pointwise
  rfl

/-- The one-hot entry: one where the two words agree, and zero elsewhere. -/
theorem onehot (a b : BitVec 32) :
    (FloatOps.sitofp (F := Ideal) .f32 (BitVec.setWidth 32 (IntOp.cmpi .eq a b)) : EReal) = if a = b then 1 else 0 := by
  show (((BitVec.setWidth 32 (BitVec.ofBool (a == b))).toInt : ℝ) : EReal) = _
  by_cases h : a = b
  · subst h; simp
  · rw [beq_eq_false_iff_ne.mpr h, if_neg h]; simp

/-- What a block adds to cell `s`, lane `h`: the features of its points whose cell number is `s`, summed. -/
theorem pay8_apply (x : Vec Ideal S1x4096x7 .f32) (n : IVec S4096x1 32) (W0 : Vec Ideal S7x64 .f32) (b0 : Vec Ideal S1x64 .f32)
    (W1 : Vec Ideal S64x64 .f32) (b1 : Vec Ideal S1x64 .f32) (s : Fin 1024) (h : Fin 64) :
    k0_pay8 (F := Ideal) (k0_pay11 x) n W0 b0 W1 b1 (ix2 s h) =
      ∑ q : Fin 4096, if (n (ix2 q 0)).toNat = s.val then
        Grid.feature (fun i => x (ix3 0 q i)) W0 (fun k => b0 (ix2 0 k)) W1 (fun k => b1 (ix2 0 k)) h else 0 := by
  unfold_payloads
  pointwise
  refine Finset.sum_congr rfl fun q _ => ?_
  rw [onehot, ite_mul, one_mul, zero_mul]
  have e : n (ix2 q 0) = BitVec.ofNat 32 s.val ↔ (n (ix2 q 0)).toNat = s.val := by
    rw [← BitVec.toNat_inj, BitVec.toNat_ofNat, Nat.mod_eq_of_lt (by omega)]
  simp only [e]
  rfl

end Cert.KernelIdeal.Val
-- ==== Proof.Reads.lean ====
module

public import proofs.«01_k».proof.Proof.Block

@[expose] public section
set_option maxRecDepth 16384
noncomputable section
open Idealize.ShloMosaic Idealize.ShloMosaic.TcCoe Idealize.SL.Sem

namespace Cert.KernelIdeal.Val
open Cert.KernelIdeal Cert.KernelIdeal.Gen
variable (m : (ℓ : Loc nD τ sig) → Buf (Elt Ideal) ℓ) (c : Dev nD)

/-- Where each window's block lies, on block indices: the points' by batch and step, the output's by batch, the weights' whole. -/
theorem index_facts : ∀ t : Fin grid0.N,
    (win0_0.index t 0 = t.val / 32 ∧ win0_0.index t 1 = t.val % 16 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val / 32 ∧ win0_5.index t 1 = 0 ∧ win0_5.index t 2 = 0) := by
  decide +kernel

/-- The points' block at a grid point: 4096 consecutive points of the batch. -/
theorem iblk0 (t : Fin cfg0.N) (q : Fin 4096) (j : Fin 7) (b : Fin 8) (p : Fin 65536) (hb : b.val = t.val / 32)
    (hp : p.val = t.val % 16 * 4096 + q.val) :
    iblk m c 0 t (ix3 0 q j) = m ((c : Thread nD τ).loc main_arg0) (ix3 b p j) := by
  obtain ⟨⟨e0, e1, e2⟩, -⟩ := index_facts t
  blk_ext [iblk, V, e0, e1, e2]

/-- The first layer's weights, whole at every grid point. -/
theorem iblk1 (t : Fin cfg0.N) : iblk m c 1 t = m ((c : Thread nD τ).loc main_arg1) := by
  obtain ⟨-, ⟨e0, e1⟩, -⟩ := index_facts t
  funext x
  blk_ext [iblk, V, e0, e1]

/-- The first layer's bias, whole at every grid point. -/
theorem iblk2 (t : Fin cfg0.N) (k : Fin 64) : iblk m c 2 t (ix2 0 k) = m ((c : Thread nD τ).loc main_arg2) (ix1 k) := by
  obtain ⟨-, -, ⟨e0, e1⟩, -⟩ := index_facts t
  have hV : (V m c main_v0 : Grid.Mat 1 64) = shapeCast S1x64 (m ((c : Thread nD τ).loc main_arg2)) shapeCasts_S64_S1x64 := by
    show StableHlo.after hostOps0 (fun b => m (c, b)) (Proc.devRef .tc main_v0) = _
    unfold hostOps0
    after_results_simp
    rfl
  have hE : ((cfg0.win 2).blk t).view.emb (ix2 (0 : Fin 1) k) = ix2 (0 : Fin 1) k := by
    blk_ext [e0, e1]
  show V m c main_v0 (((cfg0.win 2).blk t).view.emb (ix2 (0 : Fin 1) k)) = _
  rw [hE]
  refine (congrFun hV (ix2 0 k)).trans ?_
  pointwise

/-- The second layer's weights, whole at every grid point. -/
theorem iblk3 (t : Fin cfg0.N) : iblk m c 3 t = m ((c : Thread nD τ).loc main_arg3) := by
  obtain ⟨-, -, -, ⟨e0, e1⟩, -⟩ := index_facts t
  funext x
  blk_ext [iblk, V, e0, e1]

/-- The second layer's bias, whole at every grid point. -/
theorem iblk4 (t : Fin cfg0.N) (k : Fin 64) : iblk m c 4 t (ix2 0 k) = m ((c : Thread nD τ).loc main_arg4) (ix1 k) := by
  obtain ⟨-, -, -, -, ⟨e0, e1⟩, -⟩ := index_facts t
  have hV : (V m c main_v1 : Grid.Mat 1 64) = shapeCast S1x64 (m ((c : Thread nD τ).loc main_arg4)) shapeCasts_S64_S1x64 := by
    show StableHlo.after hostOps0 (fun b => m (c, b)) (Proc.devRef .tc main_v1) = _
    unfold hostOps0
    after_results_simp
    rfl
  have hE : ((cfg0.win 4).blk t).view.emb (ix2 (0 : Fin 1) k) = ix2 (0 : Fin 1) k := by
    blk_ext [e0, e1]
  show V m c main_v1 (((cfg0.win 4).blk t).view.emb (ix2 (0 : Fin 1) k)) = _
  rw [hE]
  refine (congrFun hV (ix2 0 k)).trans ?_
  pointwise

end Cert.KernelIdeal.Val
-- ==== Proof.Fold.lean ====
module

public import proofs.«01_k».proof.Proof.Reads

@[expose] public section
set_option maxRecDepth 16384
noncomputable section
open Idealize.ShloMosaic Idealize.ShloMosaic.TcCoe Idealize.SL.Sem

namespace Cert.KernelIdeal.Val
open Cert.KernelIdeal Cert.KernelIdeal.Gen

/-- Batch `b`'s points as a list of rows, by number. -/
def row (X : Grid.Points) (b : Fin 8) (p : Nat) (j : Fin 7) : EReal := if h : p < 65536 then X (ix3 b ⟨p, h⟩ j) else 0

/-- A row below 65536 is the point of that number. -/
theorem row_of_lt (X : Grid.Points) (b : Fin 8) (p : Fin 65536) (j : Fin 7) : row X b p.val j = X (ix3 b p j) := dif_pos p.isLt

/-- A statement about every row is one about every point. -/
theorem forall_row (X : Grid.Points) (b : Fin 8) (j : Fin 7) (P : EReal → Prop) :
    (∀ p < 65536, P (row X b p j)) ↔ ∀ p : Fin 65536, P (X (ix3 b p j)) :=
  ⟨fun h p => row_of_lt X b p j ▸ h p.val p.isLt, fun h p hp => (row_of_lt X b ⟨p, hp⟩ j).symm ▸ h ⟨p, hp⟩⟩

/-- Extremes that bound all 65536 rows of a batch are the batch's least and greatest coordinates. -/
theorem spans_all (X : Grid.Points) (b : Fin 8) (v : Vec Ideal S4 .f32) (h : Spans (row X b) 65536 v) :
    v (ix1 0) = Grid.low X b 0 ∧ v (ix1 1) = Grid.high X b 0 ∧ v (ix1 2) = Grid.low X b 1 ∧ v (ix1 3) = Grid.high X b 1 := by
  refine ⟨eq_of_forall_le_iff fun a => (h.lo0 a).trans ?_, eq_of_forall_ge_iff fun a => (h.hi0 a).trans ?_,
    eq_of_forall_le_iff fun a => (h.lo1 a).trans ?_, eq_of_forall_ge_iff fun a => (h.hi1 a).trans ?_⟩
  · rw [forall_row X b 0 (a ≤ ·), Grid.low, Grid.ofBits_top, Finset.le_fold_min]; simp
  · rw [forall_row X b 0 (· ≤ a), Grid.high, Grid.ofBits_bot, Finset.fold_max_le]; simp
  · rw [forall_row X b 1 (a ≤ ·), Grid.low, Grid.ofBits_top, Finset.le_fold_min]; simp
  · rw [forall_row X b 1 (· ≤ a), Grid.high, Grid.ofBits_bot, Finset.fold_max_le]; simp

variable (m : (ℓ : Loc nD τ sig) → Buf (Elt Ideal) ℓ) (c : Dev nD)

/-- The points as the program finds them. -/
abbrev pts : Grid.Points := m ((c : Thread nD τ).loc main_arg0)

/-- What the program finds as weights and biases gives each point's share of a cell. -/
abbrev shareOf (b : Fin 8) (s : Nat) (h : Fin 64) (p : Fin 65536) : EReal :=
  Grid.share (pts m c) (m ((c : Thread nD τ).loc main_arg1)) (fun k => m ((c : Thread nD τ).loc main_arg2) (ix1 k))
    (m ((c : Thread nD τ).loc main_arg3)) (fun k => m ((c : Thread nD τ).loc main_arg4) (ix1 k)) b s h p

/-- The block read at a grid point is rows of the batch. -/
theorem iblk0_row (t : Fin cfg0.N) (b : Fin 8) (hb : b.val = t.val / 32) (q : Fin 4096) (j : Fin 7) :
    iblk m c 0 t (ix3 0 q j) = row (pts m c) b (t.val % 16 * 4096 + q.val) j := by
  have hp : t.val % 16 * 4096 + q.val < 65536 := by omega
  exact (iblk0 m c t q j b ⟨_, hp⟩ hb rfl).trans (row_of_lt (pts m c) b ⟨_, hp⟩ j).symm

/-- After each point of the first phase the extremes bound the batch's rows read so far; through the second phase they bound them all. -/
theorem spans_at (n : Nat) (hn : n < cfg0.N) (b : Fin 8) (hb : b.val = n / 32) :
    (n / 16 % 2 = 0 → Spans (row (pts m c) b) (n % 16 * 4096 + 4096) (outsAt0 m c n hn).2)
    ∧ (n / 16 % 2 = 1 → Spans (row (pts m c) b) 65536 (outsAt0 m c n hn).2) := by
  induction n with
  | zero =>
    refine ⟨fun _ => ?_, fun h => absurd h (by decide)⟩
    rw [span_first m c ⟨0, hn⟩ (show 0 / 16 % 2 = 0 by decide) (Nat.zero_mod 16)]
    exact spans_widen _ 0 _ _ (fun q j => iblk0_row m c ⟨0, hn⟩ b hb q j) (spans_none _)
  | succ k ih =>
    have hk : k < cfg0.N := Nat.lt_of_succ_lt hn
    refine ⟨fun h0 => ?_, fun h0 => ?_⟩
    · by_cases h1 : (k + 1) % 16 = 0
      · rw [span_first m c ⟨k + 1, hn⟩ h0 h1]
        refine spans_widen _ _ _ _ (fun q j => iblk0_row m c ⟨k + 1, hn⟩ b hb q j) ?_
        rw [h1]
        exact spans_none _
      · rw [span_next m c ⟨k + 1, hn⟩ h0 h1]
        refine spans_widen _ _ _ _ (fun q j => iblk0_row m c ⟨k + 1, hn⟩ b hb q j) ?_
        have e : (k + 1) % 16 * 4096 = k % 16 * 4096 + 4096 := by omega
        rw [e]
        exact (ih hk (by omega)).1 (by omega)
    · rw [span_keep m c ⟨k + 1, hn⟩ h0]
      by_cases h1 : (k + 1) % 16 = 0
      · have e : k % 16 * 4096 + 4096 = 65536 := by omega
        exact e ▸ (ih hk (by omega)).1 (by omega)
      · exact (ih hk (by omega)).2 (by omega)

/-- What one block adds to a cell in the second phase: its points' shares. -/
theorem block_share (t : Fin cfg0.N) (h0 : t.val / 16 % 2 = 1) (b : Fin 8) (hb : b.val = t.val / 32) (s : Fin 1024) (h : Fin 64) :
    k0_pay8 (F := Ideal) (k0_pay11 (iblk m c 0 t))
        (cells (iblk m c 0 t) (outsAt0 m c (t.val - 1) (Nat.lt_of_le_of_lt (Nat.sub_le _ _) t.isLt)).2)
        (iblk m c 1 t) (iblk m c 2 t) (iblk m c 3 t) (iblk m c 4 t) (ix2 s h) =
      ∑ q : Fin 4096, shareOf m c b s.val h ⟨t.val % 16 * 4096 + q.val, by omega⟩ := by
  have sp := (spans_at m c t.val t.isLt b hb).2 h0
  rw [span_keep m c t h0] at sp
  obtain ⟨e0, e1, e2, e3⟩ := spans_all _ _ _ sp
  rw [pay8_apply]
  refine Finset.sum_congr rfl fun q _ => ?_
  have hx : ∀ j, iblk m c 0 t (ix3 0 q j) = pts m c (ix3 b ⟨t.val % 16 * 4096 + q.val, by omega⟩ j) :=
    fun j => iblk0 m c t q j b _ hb rfl
  rw [cells_apply, e0, e1, e2, e3, iblk1, iblk3]
  simp only [hx, iblk2, iblk4]
  rfl

/-- The shares of the first `n` points, added up. -/
def partly (b : Fin 8) (s : Nat) (h : Fin 64) (n : Nat) : EReal :=
  ∑ p ∈ Finset.range n, if hp : p < 65536 then shareOf m c b s h ⟨p, hp⟩ else 0

/-- One more block of 4096 points adds its shares. -/
theorem partly_add (b : Fin 8) (s : Nat) (h : Fin 64) (n : Nat) (hn : n + 4096 ≤ 65536) :
    partly m c b s h (n + 4096) = partly m c b s h n + ∑ q : Fin 4096, shareOf m c b s h ⟨n + q.val, by omega⟩ := by
  unfold partly
  rw [Finset.sum_range_add, Finset.sum_range (n := 4096)]
  refine congrArg (_ + ·) (Finset.sum_congr rfl fun q _ => ?_)
  exact dif_pos (by omega)

/-- All the shares of a cell make the latent grid's entry. -/
theorem partly_all (b : Fin 8) (s : Nat) (h : Fin 64) : partly m c b s h 65536 = ∑ p : Fin 65536, shareOf m c b s h p := by
  unfold partly
  rw [Finset.sum_range]
  exact Finset.sum_congr rfl fun p _ => dif_pos p.isLt

/-- After each point of the second phase the output block holds the shares of the batch's points read so far in that phase. -/
theorem out_at (n : Nat) (hn : n < cfg0.N) (b : Fin 8) (hb : b.val = n / 32) (h0 : n / 16 % 2 = 1) (s : Fin 1024) (h : Fin 64) :
    (outsAt0 m c n hn).1 (ix3 0 s h) = partly m c b s.val h (n % 16 * 4096 + 4096) := by
  induction n with
  | zero => exact absurd h0 (by decide)
  | succ k ih =>
    have hk : k < cfg0.N := Nat.lt_of_succ_lt hn
    rw [partly_add m c b s.val h _ (by omega), ← block_share m c ⟨k + 1, hn⟩ h0 b hb s h]
    by_cases h1 : (k + 1) % 16 = 0
    · rw [out_first m c ⟨k + 1, hn⟩ h0 h1, h1]
      have z : partly m c b s.val h (0 * 4096) = 0 := by simp [partly]
      rw [z, zero_add]
      unfold k0_pay9
      pointwise
    · have e : (k + 1) % 16 * 4096 = k % 16 * 4096 + 4096 := by omega
      rw [out_next m c ⟨k + 1, hn⟩ h0 h1, e, ← ih hk (by omega) (by omega)]
      unfold k0_pay10
      pointwise
      rfl

end Cert.KernelIdeal.Val
-- ==== Proof.Run.lean ====
module

public import proofs.«01_k».proof.Proof.Fold

@[expose] public section
set_option maxRecDepth 16384
noncomputable section
open Idealize.ShloMosaic Idealize.ShloMosaic.TcCoe Idealize.SL.Sem

namespace Cert.KernelIdeal.Val
open Cert.KernelIdeal Cert.KernelIdeal.Gen
variable (m : (ℓ : Loc nD τ sig) → Buf (Elt Ideal) ℓ) (ρ : Dev nD → PrngReg) (c : Dev nD)

/-- The latent grids of all batches, cell by cell. -/
def grids : Vec Ideal S8x1024x64 .f32 := fun i => ∑ p : Fin 65536, shareOf m c (i 0) (i 1).val (i 2) p

/-- After the run the output array holds the latent grids. -/
theorem final_grids : (dats m 0 c).arrAt 5 cfg0.N = grids m c := by
  refine (dats m 0 c).arrAt_eq_of_covers 5 _ (by decide +kernel) fun t hf y => ?_
  have ht : t.val % 32 = 31 := (flush0_5 t).mp hf
  obtain ⟨-, -, -, -, -, e0, e1, e2⟩ := index_facts t
  have hb : t.val / 32 < 8 := Nat.div_lt_of_lt_mul (show t.val < 32 * 8 from t.isLt)
  obtain ⟨z, s, h, rfl⟩ : ∃ z s h, y = ix3 z s h := ⟨_, _, _, eq_ix3 y⟩
  obtain rfl : z = 0 := Subsingleton.elim _ _
  blk_simp
  rw [after0_5, out_at m c t.val t.isLt ⟨t.val / 32, hb⟩ rfl (by omega) s h]
  have e15 : t.val % 16 * 4096 + 4096 = 65536 := by omega
  rw [e15, partly_all]
  have ee : (win0_5.blk t).view.emb (ix3 0 s h) = ix3 ⟨t.val / 32, hb⟩ s h := by
    blk_ext [e0, e1, e2]
  rw [ee]
  rfl

/-- The program's result is the latent grids, with the cell number written as its two coordinates. -/
theorem result_eq : Pipeline.afterTail₀ cfgs (dats m) 0 (V0 m) [hostOps1] c main_v3 =
    shapeCast S8x32x32x64 (grids m c) shapeCasts_S8x1024x64_S8x32x32x64 := by
  unfold Pipeline.afterTail₀
  show StableHlo.after hostOps1 _ (Proc.devRef .tc main_v3) = _
  unfold hostOps1
  after_results_simp
  have e : Pipeline.withArrays (cfgs 0).spec c (V0 m c) (fun w => (dats m 0 c).arrAt w (cfgs 0).N) (Proc.tc.devRef main_v2) =
      grids m c :=
    (Pipeline.withArrays_arr (cfgs 0).spec (by decide) c (V0 m c) (fun w => (dats m 0 c).arrAt w (cfgs 0).N) 5).trans (final_grids m c)
  rw [e]
  rfl

/-- Every run of the program ends with the latent grids in the result and its arguments as they were. -/
theorem run : θ_run defs (onTc (τ := τ) (main (F := Ideal))) ⟨m, fun _ => 0, ρ⟩ (fun r => ∀ c : Dev nD,
    r.2.mem ((c.tc : Thread nD τ).loc main_v3) = shapeCast S8x32x32x64 (grids m c) shapeCasts_S8x1024x64_S8x32x32x64
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.2 c).2 main_v3 (Pipeline.mem_restRefs_of main_v3 (by decide) (by decide))).trans (result_eq m c), h.1 c⟩)
    (θ_run_and (unchanged m ρ) (run_main m ρ))

end Cert.KernelIdeal.Val
-- ==== Proof.Scatter.lean ====
module

public import proofs.«01_k».proof.Proof.Gen.ReferenceIdeal
public import Idealize.ShloMosaic.Lib.Pointwise
public import Idealize.ShloMosaic.Lib.Routing.OpsPair
public import Idealize.ShloMosaic.PureOps.Ideal.Laws

@[expose] public section
set_option maxRecDepth 16384
noncomputable section
open Idealize.ShloMosaic Idealize.ShloMosaic.TcCoe Idealize.SL.Sem

namespace Cert.ReferenceIdeal.Val
open Cert.ReferenceIdeal Cert.ReferenceIdeal.Gen

/-- Where the segment sum's updates go: whole rows of 64, by one row number each. -/
abbrev dS : ScatterDims S8192x64 S524288x1 S524288x64 := scatter_S8192x64_S524288x1_S524288x64_1_0_0_1

/-- The segment sum's update at row `k`, lane `h'` lands at row `r`, lane `h` exactly when the row's segment number is `r` and the lanes agree. -/
theorem lands_iff (idx : IVec S524288x1 32) (k : Fin 524288) (h' h : Fin 64) (r : Fin 8192) :
    ScatterDims.resultIdx? dS (ix2 k h') idx = some (ix2 r h) ↔ (idx (ix2 k 0)).toInt = (r.val : Int) ∧ h' = h := by
  have hs : ScatterDims.start dS (ix2 k h') idx 0 = (idx (ix2 k 0)).toInt := by
    have e : ScatterDims.siIdx dS (ix2 k h') ⟨0, by decide⟩ = ix2 k 0 := by
      funext a; fin_cases a <;> rfl
    exact congrArg (fun q => (idx q).toInt) e
  have hs1 : ScatterDims.start dS (ix2 k h') idx 1 = 0 := rfl
  have hw0 : ScatterDims.window dS (ix2 k h') 0 = 0 := rfl
  have hw1 : ScatterDims.window dS (ix2 k h') 1 = h'.val := rfl
  rw [Routing.resultIdx?_eq_some]
  constructor
  · intro q
    have q0 := q 0
    have q1 := q 1
    rw [hs, hw0] at q0
    rw [hs1, hw1] at q1
    refine ⟨by simpa using q0, Fin.ext ?_⟩
    have : ((ix2 r h : S8192x64.Idx) 1).val = h.val := rfl
    omega
  · rintro ⟨q, rfl⟩ a
    match a with
    | ⟨0, _⟩ =>
      show ScatterDims.start dS (ix2 k h') idx 0 + (ScatterDims.window dS (ix2 k h') 0 : Int) = (r.val : Int)
      rw [hs, hw0, q]; simp
    | ⟨1, _⟩ =>
      show ScatterDims.start dS (ix2 k h') idx 1 + (ScatterDims.window dS (ix2 k h') 1 : Int) = (h'.val : Int)
      rw [hs1, hw1]; simp

/-- The segment sum at row `r`: what was there, and every update whose segment number is `r`. -/
theorem scatterAdd_apply (x : FVec Ideal S8192x64 .f32) (idx : IVec S524288x1 32) (upd : FVec Ideal S524288x64 .f32) (r : Fin 8192) (h : Fin 64) :
    Host.scatterAdd dS x idx upd (ix2 r h) =
      (x (ix2 r h) + ∑ k : Fin 524288, if (idx (ix2 k 0)).toInt = (r.val : Int) then upd (ix2 k h) else (0 : EReal) : EReal) := by
  show Ideal.hostScatterAdd dS x idx upd (ix2 r h) = _
  unfold Ideal.hostScatterAdd
  refine congrArg (fun v : EReal => x (ix2 r h) + v) ?_
  rw [Finset.sum_filter, sum_idx2]
  refine Finset.sum_congr rfl fun k _ => ?_
  simp only [lands_iff]
  by_cases q : (idx (ix2 k 0)).toInt = (r.val : Int)
  · simp [q]
  · simp [q]

end Cert.ReferenceIdeal.Val
-- ==== Proof.Ref.lean ====
module

public import proofs.«01_k».proof.Proof.Gen.ReferenceIdeal.Run
public import proofs.«01_k».proof.Proof.Scatter
public import proofs.«01_k».proof.Proof.Spec
public import Idealize.ShloMosaic.Lib.Tactic.CleanTypes

@[expose] public section
set_option maxRecDepth 16384
noncomputable section
open Idealize.ShloMosaic Idealize.ShloMosaic.TcCoe Idealize.SL.Sem

namespace Cert.ReferenceIdeal.Val
open Cert.ReferenceIdeal Cert.ReferenceIdeal.Gen

/-- The reference's result at batch `b`, cell row `gx`, cell column `gy`, lane `h` is the latent grid's entry there. -/
theorem result_apply (m : (ℓ : Loc nD τ sig) → Buf (Elt Ideal) ℓ) (c : Dev nD) (b : Fin 8) (gx gy : Fin 32) (h : Fin 64) :
    Value.res_main_v66 m c (ix4 b gx gy h) =
      Grid.latent (m (c.tc.loc main_arg0)) (m (c.tc.loc main_arg1)) (fun k => m (c.tc.loc main_arg2) (ix1 k))
        (m (c.tc.loc main_arg3)) (fun k => m (c.tc.loc main_arg4) (ix1 k)) b (gx.val * 32 + gy.val) h := by
  unfold Value.res_main_v66
  clean_types
  pointwise
  refine (scatterAdd_apply _ _ _ _ _).trans ?_
  rw [Grid.sum_rows]
  pointwise
  generalize m (c.tc.loc main_arg0) = X, m (c.tc.loc main_arg1) = W0, m (c.tc.loc main_arg2) = b0, m (c.tc.loc main_arg3) = W1,
    m (c.tc.loc main_arg4) = b1
  trans ∑ x : Fin 8, ∑ p : Fin 65536, if x = b then Grid.share X W0 (fun k => b0 (ix1 k)) W1 (fun k => b1 (ix1 k)) b (gx.val * 32 + gy.val) h p else 0
  · refine Finset.sum_congr rfl fun x _ => Finset.sum_congr rfl fun p _ => ?_
    have key := Grid.row_iff x b (Grid.cell (X (ix3 x p 0)) (Grid.low X x 0) (Grid.high X x 0))
      (Grid.cell (X (ix3 x p 1)) (Grid.low X x 1) (Grid.high X x 1)) (Grid.cell_le _ _ _) (Grid.cell_le _ _ _)
      (gx.val * 32 + gy.val) (by omega)
    have e : b.val * 1024 + (gx.val * 32 + gy.val) = b.val * 1024 + gx.val * 32 + gy.val := by omega
    rw [e] at key
    by_cases q : x = b
    · subst q
      rw [if_pos rfl]
      exact if_congr (key.trans (and_iff_right rfl)) rfl rfl
    · rw [if_neg q]
      exact if_neg fun k => q (key.mp k).1
  · rw [Finset.sum_eq_single b (fun x _ q => by simp [q]) (fun q => absurd (Finset.mem_univ b) q)]
    simp only [if_true]
    rfl

end Cert.ReferenceIdeal.Val
-- ==== Proof.Equation.lean ====
module

public import proofs.«01_k».proof.Proof.Run
public import proofs.«01_k».proof.Proof.Ref

@[expose] public section
set_option maxRecDepth 16384
noncomputable section
open Idealize.ShloMosaic Idealize.ShloMosaic.TcCoe Idealize.SL.Sem

namespace Cert.Equation

/-- The latent grids with the cell number written as two coordinates, read at an entry. -/
theorem grids_apply (m : (ℓ : Loc KernelIdeal.nD KernelIdeal.τ KernelIdeal.sig) → Buf (Elt Ideal) ℓ) (c : Dev KernelIdeal.nD)
    (b : Fin 8) (gx gy : Fin 32) (h : Fin 64) :
    shapeCast KernelIdeal.S8x32x32x64 (KernelIdeal.Val.grids m c) KernelIdeal.Gen.shapeCasts_S8x1024x64_S8x32x32x64 (ix4 b gx gy h) =
      ∑ p : Fin 65536, KernelIdeal.Val.shareOf m c b (gx.val * 32 + gy.val) h p := by
  pointwise
  rfl

/-- On equal arguments the reference's result is the latent grids the program leaves. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4)) :
    ReferenceIdeal.Value.res_main_v66 m' c =
      shapeCast KernelIdeal.S8x32x32x64 (KernelIdeal.Val.grids m c) KernelIdeal.Gen.shapeCasts_S8x1024x64_S8x32x32x64 := by
  refine funext fun i => ?_
  obtain ⟨b, gx, gy, h, rfl⟩ : ∃ b gx gy h, i = ix4 b gx gy h := ⟨_, _, _, _, eq_ix4 i⟩
  refine (ReferenceIdeal.Val.result_apply m' c b gx gy h).trans (Eq.trans ?_ (grids_apply m c b gx gy h).symm)
  rw [e0, e1, e2, e3, e4]
  rfl

end Cert.Equation
-- ==== Proof.lean ====
/- The five claims, put together: the three programs run and leave their arguments, and the program and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the reference ends, leaves its arguments, and has every counter at zero: the reference has no counters. -/
theorem reference_runs : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the program and the reference end with the same result, and with their arguments as they were. -/
theorem equal_results : Cert.algebraic_KernelIdeal_ReferenceIdeal (hKernelIdeal := Cert.KernelIdeal.Gen.facts)
    (hReferenceIdeal := Cert.ReferenceIdeal.Gen.facts) := fun m g m' g' _ agree =>
  ⟨fun c => shapeCast Cert.KernelIdeal.S8x32x32x64 (Cert.KernelIdeal.Val.grids m c) Cert.KernelIdeal.Gen.shapeCasts_S8x1024x64_S8x32x32x64,
    Cert.KernelIdeal.Val.run m g,
    (θ_run Cert.ReferenceIdeal.defs _ _).mono (fun _ h c =>
      ⟨(h c).1.trans (Cert.Equation.results m m' c (agree c).1 (agree c).2.1 (agree c).2.2.1 (agree c).2.2.2.1 (agree c).2.2.2.2), (h c).2⟩)
      (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_runs, trivial, equal_results⟩

end Cert.Proof

end
